-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_target_not_negative [hPre_target_not_negative : Cert.Pre_target_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_target_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_target_not_negative [hPre_target_not_negative : Cert.Pre_target_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_target_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_target_not_negative [hKernelIdeal : Cert.KernelIdeal.Facts] [hPre_target_not_negative : Cert.Pre_target_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_target_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_target_not_negative [hReferenceIdeal : Cert.ReferenceIdeal.Facts] [hPre_target_not_negative : Cert.Pre_target_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_target_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_target_not_negative [hKernelIdeal : Cert.KernelIdeal.Facts] [hReferenceIdeal : Cert.ReferenceIdeal.Facts] [hPre_target_not_negative : Cert.Pre_target_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_target_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_target_not_negative : Cert.Pre_target_not_negative.Facts),
    quiescent_Kernel (hKernel := hKernel)
    ∧ quiescent_KernelIdeal (hKernelIdeal := hKernelIdeal)
    ∧ quiescent_KernelIdeal_pre_target_not_negative (hKernelIdeal := hKernelIdeal) (hPre_target_not_negative := hPre_target_not_negative)
    ∧ quiescent_ReferenceIdeal (hReferenceIdeal := hReferenceIdeal)
    ∧ quiescent_ReferenceIdeal_pre_target_not_negative (hReferenceIdeal := hReferenceIdeal) (hPre_target_not_negative := hPre_target_not_negative)
    ∧ preserves_Kernel_KernelIdeal
    ∧ algebraic_KernelIdeal_ReferenceIdeal_pre_target_not_negative (hKernelIdeal := hKernelIdeal) (hReferenceIdeal := hReferenceIdeal) (hPre_target_not_negative := hPre_target_not_negative)
-- ==== Pre_target_not_negative.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S1024x100000 .f32) (main_arg1 : IVec S1024 32) : IVec S1024 1 :=
  let main_c : IVec S_ 32 := constantI S_ 32 0#32
  let main_v0 : IVec S1024 32 := broadcastInDim S1024 ![] bcast_S_S1024 main_c
  let main_v1 : IVec S1024 1 := cmpi .sge main_arg1 main_v0
  main_v1
-- ==== Kernel.lean ====
abbrev S1024x100000 : Shape := ⟨2, ![1024, 100000]⟩
abbrev S1024 : Shape := ⟨1, ![1024]⟩
abbrev S100000x1024 : Shape := ⟨2, ![100000, 1024]⟩
abbrev S1x1024 : Shape := ⟨2, ![1, 1024]⟩
abbrev S1x1 : Shape := ⟨2, ![1, 1]⟩
abbrev S1000x1024 : Shape := ⟨2, ![1000, 1024]⟩
abbrev S1 : Shape := ⟨1, ![1]⟩
abbrev S1x1000x1024 : Shape := ⟨3, ![1, 1000, 1024]⟩
abbrev S1x1x1 : Shape := ⟨3, ![1, 1, 1]⟩
abbrev S_ : Shape := ⟨0, ![]⟩

abbrev nBuf : Space → Nat
  | .hbm => 6
  | .vmem => 3
  | .smem => 2
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S100000x1024, .f32⟩
  | .hbm, ⟨3, _⟩ => ⟨S1x1024, .i32⟩
  | .hbm, ⟨4, _⟩ => ⟨S1x1, .f32⟩
  | .hbm, ⟨5, _⟩ => ⟨S_, .f32⟩
  | .local _ .vmem, ⟨0, _⟩ => ⟨S1x1024, .i32⟩
  | .local _ .vmem, ⟨1, _⟩ => ⟨S1000x1024, .f32⟩
  | .local _ .vmem, ⟨2, _⟩ => ⟨S1000x1024, .f32⟩
  | .local _ .smem, ⟨0, _⟩ => ⟨S1x1, .f32⟩
  | .local _ .smem, ⟨1, _⟩ => ⟨S1, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.smem, 0, rfl⟩
abbrev cc0_scratch0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v24 : BitVec 1 := Scalar.cmpi .eq arg0 c99_i32
  let v25 : BitVec 32 := Scalar.extui v24
  let c0_i32_8 : BitVec 32 := 0#32
  let v26 : BitVec 1 := Scalar.cmpi .ne v25 c0_i32_8
  v26

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 33
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S1024x100000, .f32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S1024x1, .i32⟩
  | .hbm, ⟨20, _⟩ => ⟨S1024x1, .i32⟩
  | .hbm, ⟨21, _⟩ => ⟨S1024x2, .i32⟩
  | .hbm, ⟨22, _⟩ => ⟨S_, .f32⟩
  | .hbm, ⟨23, _⟩ => ⟨S1024, .f32⟩
  | .hbm, ⟨24, _⟩ => ⟨S1024x100000, .f32⟩
  | .hbm, ⟨25, _⟩ => ⟨S1024x100000, .f32⟩
  | .hbm, ⟨26, _⟩ => ⟨S1024x100000, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Proof.Cases.lean ====
/- What one run of the kernel's body leaves behind, in each of its three cases: the grid's first block (which clears the
   running total), the blocks between, and the last one (which also writes the result). -/
module

public import proofs.«01_k».proof.Proof.Gen.KernelIdeal.Frame
public import Idealize.ShloMosaic.Lib.Pipeline.Value
public import Idealize.ShloMosaic.Lib.Tactic
public import Idealize.ShloMosaic.Lib.ValueIdx
public import Idealize.ShloMosaic.Lib.ValueIdxCoords

@[expose] public section

noncomputable section

namespace Cert.KernelIdeal.Nll

open Cert.KernelIdeal Cert.KernelIdeal.Gen
open Idealize.ShloMosaic Idealize.ShloMosaic.TcCoe Idealize.ShloMosaic.ValueIdx Idealize.SL.Sem

variable {F : FTy → Type} [FloatOps F]

/-- A load or store of the whole running total starts at zero. -/
theorem off1 : (![0] : Fin 1 → Nat) = fun _ => 0 := funext fun a => by fin_cases a; rfl
/-- A load or store of a whole two-axis block starts at zero along both. -/
theorem off2 : (![0, 0] : Fin 2 → Nat) = fun _ => 0 := funext fun a => by fin_cases a <;> rfl

/-- The one word a running total of shape [1] holds. -/
abbrev word (v : Vec F S1 .f32) : F .f32 := v (ix1 0)

/-- A load of the running total reads its one word. -/
theorem ld_word (v : Vec F S1 .f32) (j : (Rect.unit (s := S1) ![0] ![1] inb_S1_S1_0).shape.Idx) :
    View.ld (Val := Elt F) v (Rect.unit (s := S1) ![0] ![1] inb_S1_S1_0) j = word v :=
  congrArg v (eq_ix1_u0 _)

variable (c : Dev nD) (i : grid0.Coords) (a1 : Memref sig .tc .vmem S1x1024 .i32) (h1 : a1.IsWhole)
  (a2 : Memref sig .tc .vmem S1000x1024 .f32) (h2 : a2.IsWhole) (a3 : Memref sig .tc .smem S1x1 .f32) (h3 : a3.IsWhole)
  (a4 : Memref sig .tc .smem S1 .f32) (h4 : a4.IsWhole) (tgt : Vec F S1x1024 .i32) (x : Vec F S1000x1024 .f32) (xs : Vec F S1 .f32)

/-- At the first block the running total becomes zero plus the block's share. -/
theorem total_first (hc0 : cond0_0 i) (hc1 : ¬cond0_1 i) :
    word (sout0_A_0 c i a1 h1 a2 h2 a3 h3 a4 h4 hc0 hc1 tgt x) = k0_pay1 i x tgt (Scalar.ofBits .f32 0x00000000#32) := by
  unfold sout0_A_0
  rw [View.read_writes_eq_canon _ _ _ (scover0_A_0 c i a1 h1 a2 h2 a3 h3 a4 h4 hc0 hc1 tgt x)]
  unfold kernelRun0_A
  dsimp only
  sl_unfold_words
  rw [View.canon_cons_unit_zero (S := S1) off1]
  simp only [View.readCov_unit_zero (S := S1) _ off1, View.readAt_eq_ld, h1.read_unread, h2.read_unread,
    View.ld_unit_zero (S := S1x1024) off2, View.ld_unit_zero (S := S1000x1024) off2]

/-- At a block between, the running total grows by the block's share. -/
theorem total_next (hc0 : ¬cond0_0 i) (hc1 : ¬cond0_1 i) :
    word (sout0_B_0 c i a1 h1 a2 h2 a3 h3 a4 h4 hc0 hc1 tgt x xs) = k0_pay1 i x tgt (word xs) := by
  unfold sout0_B_0
  rw [View.read_writes_eq_canon _ _ _ (scover0_B_0 c i a1 h1 a2 h2 a3 h3 a4 h4 hc0 hc1 tgt x xs)]
  unfold kernelRun0_B
  dsimp only
  sl_unfold_words
  rw [View.canon_unit_zero off1]
  simp only [View.readAt_eq_ld, h1.read_unread, h2.read_unread, h4.read_unread,
    View.ld_unit_zero (S := S1x1024) off2, View.ld_unit_zero (S := S1000x1024) off2]
  rw [ld_word]

/-- At the last block the result is the grown running total, divided. -/
theorem result_last (hc0 : ¬cond0_0 i) (hc1 : cond0_1 i) (j : S1x1.Idx) :
    out0_C_2 c i a1 h1 a2 h2 a3 h3 a4 h4 hc0 hc1 tgt x xs j = k0_pay2 (k0_pay1 i x tgt (word xs)) := by
  unfold out0_C_2
  rw [View.read_writes_eq_canon _ _ _ (cover0_C_2 c i a1 h1 a2 h2 a3 h3 a4 h4 hc0 hc1 tgt x xs)]
  unfold kernelRun0_C
  dsimp only
  sl_unfold_words
  rw [View.canon_unit_zero off2]
  simp only [View.readCov_unit_zero (S := S1) _ off1, View.readAt_eq_ld, h1.read_unread, h2.read_unread, h4.read_unread,
    View.ld_unit_zero (S := S1x1024) off2, View.ld_unit_zero (S := S1000x1024) off2]
  rw [ld_word]

end Cert.KernelIdeal.Nll

end
-- ==== Proof.Share.lean ====
/- The share one block of 1000 classes adds to the running total, as an exact sum over its classes and the 1024 rows. -/
module

public import proofs.«01_k».proof.Proof.Gen.KernelIdeal.Skeleton
public import Idealize.ShloMosaic.Lib.Pipeline.Value
public import Idealize.ShloMosaic.Lib.ValueIdx
public import Idealize.ShloMosaic.Lib.ValueIdxCoords
public import Idealize.ShloMosaic.Lib.ValueLayout
public import Idealize.ShloMosaic.Lib.WordCmp
public import Idealize.ShloMosaic.PureOps.Ideal.Laws

@[expose] public section

noncomputable section

namespace Cert.KernelIdeal.Nll

open Cert.KernelIdeal Cert.KernelIdeal.Gen
open Idealize.ShloMosaic Idealize.ShloMosaic.ValueIdx
open scoped BigOperators

/-- The factor the kernel gives an entry: one constant where the class is the row's target, another elsewhere. -/
def factor (hit : Prop) [Decidable hit] : EReal :=
  if hit then Ideal.ofBits .f32 0xBF666666#32 else Ideal.ofBits .f32 0xB5863815#32

/-- A recast array has the sum of the array it recasts. -/
theorem sum_recast {s t : Shape} (f : s.Idx → EReal) (h : s.ShapeCasts t) : ∑ j : t.Idx, shapeCast t f h j = ∑ i : s.Idx, f i :=
  Equiv.sum_comp (Shape.reshapeEquiv h) f

/-- Class `r` of block `b` is class `b * 1000 + r`, as a word. -/
theorem class_word (b r : Nat) :
    IntOp.addi (BitVec.ofNat 32 r) (Scalar.muli (BitVec.ofNat 32 b) 1000#32) = BitVec.ofNat 32 (b * 1000 + r) := by
  show IntOp.addi (BitVec.ofNat 32 r) (IntOp.muli (BitVec.ofNat 32 b) (BitVec.ofNat 32 1000)) = _
  rw [WordCmp.muli_ofNat, WordCmp.addi_ofNat, Nat.add_comm]

/-- What one block adds: the sum over its classes and the rows of the entry times its factor. -/
theorem share (i : grid0.Coords) (x : Vec Ideal S1000x1024 .f32) (tgt : Vec Ideal S1x1024 .i32) (acc : Ideal .f32) :
    k0_pay1 i x tgt acc = acc + ∑ r : Fin 1000, ∑ l : Fin 1024,
      x (ix2 r l) * factor (BitVec.ofNat 32 ((i 0).val * 1000 + r.val) = tgt (ix2 0 l)) := by
  unfold k0_pay1
  simp only [shapeCast_self]
  refine congrArg (acc + ·) ((Ideal.multiReduction_add_total _ _ reduces_S1x1000x1024_S1 (fun b => by fin_cases b; rfl)
    (.inl rfl) rfl _).trans ?_)
  rw [sum_recast, sum_idx2]
  refine Finset.sum_congr rfl fun r _ => Finset.sum_congr rfl fun l _ => ?_
  rw [mulf_apply, select_apply]
  show x (ix2 r l) * Scalar.select (IntOp.cmpi .eq (IntOp.addi (iota .tc S1000x1024 32 [0] iota_S1000x1024_d0_w32 (ix2 r l)) _) (broadcastTo S1000x1024 tgt _ (ix2 r l))) (Ideal.ofBits .f32 0xBF666666#32) (Ideal.ofBits .f32 0xB5863815#32) = _
  rw [iota_single_apply, broadcastTo_1b_ab_apply, ix2_0, broadcast_apply, class_word, WordCmp.cmpi_eq_eq, WordCmp.select_decide]
  rfl

end Cert.KernelIdeal.Nll

end
-- ==== Proof.Total.lean ====
/- What the kernel reads at each grid point, and the running total it holds after each: the shares of the blocks so far. -/
module

public import proofs.«01_k».proof.Proof.Cases
public import proofs.«01_k».proof.Proof.Share
public import Idealize.ShloMosaic.Lib.StableHlo.Run
public import Idealize.ShloMosaic.Lib.Pointwise.Sums

@[expose] public section

noncomputable section

namespace Cert.KernelIdeal.Nll

open Cert.KernelIdeal Cert.KernelIdeal.Gen
open Idealize.ShloMosaic hiding ix1 ix2
open Idealize.ShloMosaic.TcCoe Idealize.ShloMosaic.ValueIdx Idealize.SL.Sem
open scoped BigOperators

variable (m : (ℓ : Loc nD τ sig) → Buf (Elt Ideal) ℓ) (c : Dev nD)

/-- The prediction array as the launch finds it. -/
abbrev preds : FVec Ideal S1024x100000 .f32 := m ((c : Thread nD τ).loc main_arg0)
/-- The target array as the launch finds it. -/
abbrev targets : IVec S1024 32 := m ((c : Thread nD τ).loc main_arg1)

/-- The grid has one coordinate, and it is the point's number. -/
theorem coord (t : Fin cfg0.N) : (grid0.coords t 0).val = t.val := by
  have ht : t.val < 100 := Nat.lt_of_lt_of_eq t.isLt N_0
  have e : (grid0.coords t 0).val = t.val / 1 % 100 := Pipeline.Grid.coords_val t 0 (by decide) rfl
  omega

/-- The window on the transposed predictions is at row block `t` at point `t`. -/
theorem index_preds (t : Fin cfg0.N) : win0_1.index t 0 = t.val ∧ win0_1.index t 1 = 0 := by
  have ht : t.val < 100 := Nat.lt_of_lt_of_eq t.isLt N_0
  refine ⟨?_, rfl⟩
  show (BitVec.ofNat 32 (grid0.coords t 0).val).toNat = t.val
  rw [coord, WordCmp.toNat_ofNat_of_lt (by omega)]

/-- Before the grid starts, the kernel's first operand is the prediction array transposed. -/
theorem entry_preds : V m c main_v0 = transpose S100000x1024 [1, 0] (preds m c) transposes_S1024x100000_S100000x1024_1_0 := by
  show StableHlo.after hostOps0 (fun b => m (c, b)) (Proc.devRef .tc main_v0) = _
  after_results_simp

/-- Before the grid starts, the kernel's second operand is the target array as one row. -/
theorem entry_targets : V m c main_v1 = shapeCast S1x1024 (targets m c) shapeCasts_S1024_S1x1024 := by
  show StableHlo.after hostOps0 (fun b => m (c, b)) (Proc.devRef .tc main_v1) = _
  after_results_simp
  rfl

/-- Block `t` of the predictions holds, at class `r` and row `l`, the prediction of row `l` for class `1000 t + r`. -/
theorem block_preds (t : Fin cfg0.N) (r : Fin 1000) (l : Fin 1024) (h : t.val * 1000 + r.val < 100000) :
    (iblk m c 1 t : Vec Ideal S1000x1024 .f32) (ix2 r l) = preds m c (ix2 l ⟨t.val * 1000 + r.val, h⟩) := by
  unfold iblk
  rw [View.read_apply]
  show V m c main_v0 _ = _
  rw [entry_preds, ← transpose_ix2_apply (preds m c) transposes_S1024x100000_S100000x1024_1_0]
  congr 1
  funext a
  apply Fin.ext
  match a with
  | ⟨0, _⟩ => show win0_1.index t 0 * 1000 + 1 * r.val = t.val * 1000 + r.val; rw [(index_preds t).1]; omega
  | ⟨1, _⟩ => show win0_1.index t 1 * 1024 + 1 * l.val = l.val; rw [(index_preds t).2]; omega

/-- The targets' block holds, at every point, the whole target array. -/
theorem block_targets (t : Fin cfg0.N) (l : Fin 1024) :
    (iblk m c 0 t : Vec Ideal S1x1024 .i32) (ix2 0 l) = targets m c (ix1 l) := by
  unfold iblk
  rw [View.read_apply]
  show V m c main_v1 _ = _
  rw [entry_targets, ← shapeCast_a_1a_apply (targets m c) shapeCasts_S1024_S1x1024 0]
  congr 1
  funext a
  apply Fin.ext
  match a with
  | ⟨0, _⟩ => show 0 * 1 + 1 * 0 = 0; rfl
  | ⟨1, _⟩ => show 0 * 1024 + 1 * l.val = l.val; omega

/-- What the class `k` adds over all rows: each row's prediction for it, times its factor. -/
def classSum (k : Fin 100000) : EReal :=
  ∑ l : Fin 1024, preds m c (ix2 l k) * factor (BitVec.ofNat 32 k.val = targets m c (ix1 l))

/-- What the classes of block `b` add. -/
def blockSum (b : Fin 100) : EReal :=
  ∑ r : Fin 1000, classSum m c ⟨b.val * 1000 + r.val, by have := b.isLt; have := r.isLt; omega⟩

/-- The body at point `t` adds block `t`'s sum to the running total. -/
theorem grown (t : Fin cfg0.N) (b : Fin 100) (hb : t.val = b.val) (acc : Ideal .f32) :
    k0_pay1 (grid0.coords t) (iblk m c 1 t) (iblk m c 0 t) acc = acc + blockSum m c b := by
  refine (share _ _ _ _).trans (congrArg (acc + ·) (Finset.sum_congr rfl fun r _ => Finset.sum_congr rfl fun l _ => ?_))
  have hr : t.val * 1000 + r.val < 100000 := by have := b.isLt; have := r.isLt; omega
  rw [block_preds m c t r l hr, block_targets, coord]
  simp only [hb]

/-- After point `n`, short of the last, the running total is the sum of the blocks `0` to `n`. -/
theorem total (n : ℕ) (hn : n < 99) :
    word (outsAt0 m c n (show n < cfg0.N by rw [show cfg0.N = 100 from N_0]; omega)).2
      = ∑ b : Fin (n + 1), blockSum m c ⟨b.val, by have := b.isLt; omega⟩ := by
  induction n with
  | zero =>
    rw [outsAt0_A m c ⟨0, by rw [show cfg0.N = 100 from N_0]; omega⟩ rfl (by decide)]
    dsimp only
    rw [total_first, grown m c ⟨0, _⟩ 0 rfl, Fin.sum_univ_one]
    show Ideal.ofBits .f32 0x00000000#32 + _ = _
    rw [Ideal.ofBits_zero_f32, zero_add]
    rfl
  | succ n ih =>
    rw [outsAt0_B m c ⟨n + 1, by rw [show cfg0.N = 100 from N_0]; omega⟩ (by dsimp only; omega) (by dsimp only; omega)]
    dsimp only
    rw [total_next, grown m c ⟨n + 1, _⟩ ⟨n + 1, by omega⟩ rfl, Fin.sum_univ_castSucc]
    exact congrArg (· + _) (ih (by omega))

/-- All classes' sums over all rows. -/
def grandSum : EReal := ∑ k : Fin 100000, classSum m c k

/-- The last point's output block: the sum over every class, divided by the number of rows. -/
theorem written (t : Fin cfg0.N) (ht : t.val = 99) (j : S1x1.Idx) :
    (outsAt0 m c t.val t.isLt).1 j = Ideal.div (grandSum m c) (Ideal.ofBits .f32 0x44800000#32) := by
  rw [outsAt0_C m c t (by omega) (by omega)]
  dsimp only
  rw [result_last, grown m c t 99 ht]
  have h98 := total m c 98 (by omega)
  have hp : word (outsAt0 m c (t.val - 1) (Nat.lt_of_le_of_lt (Nat.sub_le _ _) t.isLt)).2
      = ∑ b : Fin 99, blockSum m c ⟨b.val, by have := b.isLt; omega⟩ := by
    rw [← h98]; congr 3; omega
  rw [hp]
  have hg : grandSum m c = (∑ b : Fin 99, blockSum m c ⟨b.val, by have := b.isLt; omega⟩) + blockSum m c 99 := by
    unfold grandSum
    rw [Fin.sum_univ_tiles 100 1000 (by norm_num), Fin.sum_univ_castSucc]
    rfl
  rw [hg]
  rfl

end Cert.KernelIdeal.Nll

end
-- ==== Proof.Result.lean ====
/- What the kernel's result array ends holding: the last point's block, read as a single number. -/
module

public import proofs.«01_k».proof.Proof.Total

@[expose] public section

noncomputable section

namespace Cert.KernelIdeal.Nll

open Cert.KernelIdeal Cert.KernelIdeal.Gen
open Idealize.ShloMosaic hiding ix1 ix2
open Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The kernel's answer: every class's sum over the rows, added up and divided by the number of rows. -/
def answer : EReal := Ideal.div (grandSum m c) (Ideal.ofBits .f32 0x44800000#32)

/-- The [1, 1] array holding the answer. -/
abbrev answerBlock : Buf (Elt Ideal) ((c : Thread nD τ).loc main_v2) := fun _ => answer m c

/-- The last point. -/
abbrev lastPoint : Fin cfg0.N := ⟨99, by rw [show cfg0.N = 100 from N_0]; omega⟩

/-- The one block written back is the answer's. -/
theorem writeback (t : Fin cfg0.N) (hf : (cfg0.win 2).flush t = true) :
    (dats m 0 c).flushed 2 t = ((cfg0.win 2).blk t).view.read (Elt Ideal) (answerBlock m c) := by
  have ht : t.val < 100 := Nat.lt_of_lt_of_eq t.isLt N_0
  have h99 : t.val = 99 := by have := (flush0_2 t).mp hf; omega
  show (cfg0.win 2).cut (grid0.coords t) ((dats m 0 c).after 2 t) = _
  rw [after0_2]
  funext j
  rw [View.read_apply]
  exact written m c t h99 _

/-- That block is the whole array, so the array ends holding the answer. -/
theorem final : (dats m 0 c).arrAt 2 cfg0.N = answerBlock m c :=
  (dats m 0 c).arrAt_eq_of_cover 2 (answerBlock m c) (writeback m c) fun i =>
    ⟨lastPoint, (flush0_2 lastPoint).mpr rfl, by
      show i ∈ ((View.whole main_v2).slice (win0_2.rect lastPoint)).set
      rw [View.set_slice_whole, Rect.mem_set_unit]
      intro a
      match a with
      | ⟨0, _⟩ =>
        have h : (i 0 : Nat) < 1 := (i 0).isLt
        show 0 * 1 ≤ (i 0 : Nat) ∧ (i 0 : Nat) < 0 * 1 + 1
        omega
      | ⟨1, _⟩ =>
        have h : (i 1 : Nat) < 1 := (i 1).isLt
        show 0 * 1 ≤ (i 1 : Nat) ∧ (i 1 : Nat) < 0 * 1 + 1
        omega⟩

/-- The distinct windows have distinct arrays. -/
theorem arrays_distinct : Function.Injective (Pipeline.arrRef spec0) := by
  decide

/-- The number the host reads out of that array is the answer. -/
theorem scalar_result :
    Pipeline.afterTail₀ cfgs (dats m) 0 (V0 m) [hostOps1] c main_v3 = fun _ => answer m c := by
  unfold Pipeline.afterTail₀
  show StableHlo.after hostOps1 _ (Proc.devRef .tc main_v3) = _
  after_results_simp
  funext j
  show shapeCast S_ (Pipeline.withArrays spec0 c (V0 m c) (fun w => (dats m 0 c).arrAt w cfg0.N) (Proc.devRef .tc (Pipeline.arrRef spec0 2))) _ j = _
  rw [Pipeline.withArrays_arr spec0 arrays_distinct, final]
  rfl

/-- The kernel runs, its result is the answer and its arguments are unchanged. -/
theorem run : θ_run defs (onTc (τ := τ) (main (F := Ideal))) ⟨m, fun _ => 0, ρ⟩ fun r => ∀ c : Dev nD,
    r.2.mem ((c.tc : Thread nD τ).loc main_v3) = (fun _ => answer m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (scalar_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Nll

end
-- ==== Proof.Labels.lean ====
/- The reference's smoothed label array, read at one entry: one constant where the class is the row's target, another elsewhere. -/
module

public import proofs.«01_k».proof.Proof.Gen.ReferenceIdeal
public import Idealize.ShloMosaic.Lib.Routing.OpsSet
public import Idealize.ShloMosaic.Lib.IdealHost
public import Idealize.ShloMosaic.Lib.ValueIdx
public import Idealize.ShloMosaic.Lib.Pipeline.Value

@[expose] public section

noncomputable section

namespace Cert.ReferenceIdeal.Nll

open Cert.ReferenceIdeal Cert.ReferenceIdeal.Gen
open Idealize.ShloMosaic
open Idealize.ShloMosaic.ValueIdx

variable {α : Type}

/-- The scatter's dimension numbers: each update is one number, placed by a pair of index words, row and class. -/
abbrev place : ScatterDims S1024x100000 S1024x2 S1024 := scatter_S1024x100000_S1024x2_S1024_n_01_01_1

/-- Update `u` starts, along axis `q`, at word `q` of its pair, read signed. -/
theorem place_start (idx : IVec S1024x2 32) (u : Fin 1024) (q : Fin 2) :
    place.start (ix1 u) idx q = (idx (ix2 u q)).toInt := by
  have hm : q ∈ place.scatterDimsToOperandDims := by
    show q ∈ [(0 : Fin 2), 1]
    fin_cases q <;> simp
  unfold ScatterDims.start
  rw [dif_pos hm]
  refine congrArg (fun k => (idx k).toInt) (funext fun b => Fin.ext ?_)
  fin_cases q <;> fin_cases b <;> rfl

/-- An update is a single number: along each axis its window has one position, the first. -/
theorem place_window (u : Fin 1024) (q : Fin 2) : place.window (ix1 u) q = 0 := by
  fin_cases q <;> rfl

/-- Update `u` lands at row `r`, class `k` exactly when its two words, read signed, are `r` and `k`. -/
theorem place_lands (idx : IVec S1024x2 32) (u : Fin 1024) (r : Fin 1024) (k : Fin 100000) :
    place.resultIdx? (ix1 u) idx = some (ix2 r k) ↔ (idx (ix2 u 0)).toInt = r.val ∧ (idx (ix2 u 1)).toInt = k.val := by
  refine (Routing.resultIdx?_ix2 place _ _ r k).trans ?_
  rw [place_start, place_start, place_window, place_window]
  simp

/-- When the first word of pair `u` is `u` itself, the scatter of one number `v` puts it, in row `r`, at the class the row's second
    word names, if there is one, and leaves the rest. -/
theorem placed (x0 : S1024x100000.Idx → α) (idx : IVec S1024x2 32) (v : α) (hrow : ∀ u : Fin 1024, (idx (ix2 u 0)).toInt = u.val)
    (r : Fin 1024) (k : Fin 100000) :
    Host.scatter place (fun _ b => b) x0 idx (fun _ => v) (ix2 r k)
      = if (idx (ix2 r 1)).toInt = k.val then v else x0 (ix2 r k) := by
  by_cases h : (idx (ix2 r 1)).toInt = k.val
  · rw [if_pos h]
    exact Routing.scatter_set_hit place x0 idx _ _ v (fun _ _ => rfl) (ix1 r) ((place_lands idx r r k).2 ⟨hrow r, h⟩)
  · rw [if_neg h]
    refine Routing.scatter_set_miss place x0 idx _ _ fun j hj => h ?_
    obtain ⟨u, rfl⟩ : ∃ u : Fin 1024, j = ix1 u := ⟨j 0, eq_ix1 j⟩
    obtain ⟨h0, h1⟩ := (place_lands idx u r k).1 hj
    rw [hrow] at h0
    obtain rfl : u = r := Fin.ext (by exact_mod_cast h0)
    exact h1

end Cert.ReferenceIdeal.Nll

end
-- ==== Proof.Loss.lean ====
/- The reference's result as a double sum over rows and classes, when no target is negative. -/
module

public import proofs.«01_k».proof.Proof.Labels
public import proofs.«01_k».proof.Proof.Gen.ReferenceIdeal.Run
public import Idealize.ShloMosaic.PureOps.Ideal.Laws
public import Idealize.ShloMosaic.Lib.Routing.Ops
public import Idealize.ShloMosaic.Lib.ValueIdxRank1

@[expose] public section

noncomputable section

namespace Cert.ReferenceIdeal.Nll

open Cert.ReferenceIdeal Cert.ReferenceIdeal.Gen
open Idealize.ShloMosaic Idealize.ShloMosaic.TcCoe Idealize.ShloMosaic.ValueIdx Idealize.SL.Sem
open scoped BigOperators

/-- An index array as jnp reads it: a negative index has the axis's length added. -/
abbrev counted (v : IVec S1024 32) (n : BitVec 32) : IVec S1024 32 :=
  select (cmpi .slt v (broadcastInDim S1024 ![] bcast_S_S1024 (constantI S_ 32 0#32)))
    (addi v (broadcastInDim S1024 ![] bcast_S_S1024 (constantI S_ 32 n))) v

/-- Where no index is negative, that is the index array itself. -/
theorem counted_self (v : IVec S1024 32) (n : BitVec 32) (u : Fin 1024) (h : (v (ix1 u)).toNat < 2 ^ 31) :
    counted v n (ix1 u) = v (ix1 u) :=
  Routing.wrap_of_lt _ _ h

/-- Two columns of words put side by side. -/
abbrev pairs (a b : IVec S1024 32) : IVec S1024x2 32 :=
  concatenate S1024x2 1 [⟨S1024x1, broadcastInDim S1024x1 ![0] bcast_S1024_S1024x1_0 a⟩,
    ⟨S1024x1, broadcastInDim S1024x1 ![0] bcast_S1024_S1024x1_0 b⟩] concatenates_S1024x1_S1024x1_S1024x2_d1

/-- The first word of a pair is the first column's. -/
theorem pairs_fst (a b : IVec S1024 32) (u : Fin 1024) : pairs a b (ix2 u 0) = a (ix1 u) :=
  (concatenate_pair_apply_left (s₁ := S1024x1) (t := S1024x2) 1 _ _ _ (ix2 u 0) rfl (ix2 u (0 : Fin 1))
    (fun b => by fin_cases b <;> rfl)).trans (Routing.bcCol _ a u)

/-- The second word of a pair is the second column's. -/
theorem pairs_snd (a b : IVec S1024 32) (u : Fin 1024) : pairs a b (ix2 u 1) = b (ix1 u) :=
  (concatenate_pair_apply_right (s₁ := S1024x1) (s₂ := S1024x1) (t := S1024x2) 1 _ _ _ (ix2 u 1) rfl rfl (ix2 u (0 : Fin 1))
    (fun c hc => by fin_cases c <;> first | rfl | exact absurd rfl hc) rfl).trans (Routing.bcCol _ b u)

/-- The smoothed labels the reference builds from the targets. -/
abbrev labels (tgt : IVec S1024 32) : FVec Ideal S1024x100000 .f32 :=
  Host.scatter place (fun _ b => b) (broadcastInDim S1024x100000 ![] bcast_S_S1024x100000 (constant S_ .f32 0x35863815#32))
    (pairs (counted (iotaInDim S1024 32 0) 1024#32) (counted tgt 100000#32))
    (broadcastInDim S1024 ![] bcast_S_S1024 (constant S_ .f32 0x3F666666#32))

/-- A smoothed label is one constant where the class is the row's target, another elsewhere. -/
theorem labels_apply (tgt : IVec S1024 32) (h : ∀ u : Fin 1024, (tgt (ix1 u)).toNat < 2 ^ 31) (r : Fin 1024) (k : Fin 100000) :
    labels tgt (ix2 r k)
      = if BitVec.ofNat 32 k.val = tgt (ix1 r) then Ideal.ofBits .f32 0x3F666666#32 else Ideal.ofBits .f32 0x35863815#32 := by
  have hrow : ∀ u : Fin 1024, (pairs (counted (iotaInDim S1024 32 0) 1024#32) (counted tgt 100000#32) (ix2 u 0)).toInt = u.val := fun u => by
    have hu : (iotaInDim S1024 32 0 (ix1 u)).toNat = u.val := WordCmp.toNat_ofNat_of_lt (u.isLt.trans (by decide))
    rw [pairs_fst, counted_self _ _ _ (by rw [hu]; have := u.isLt; omega),
      WordCmp.toInt_eq_toNat_of_lt_half (by rw [hu]; have := u.isLt; omega), hu]
  refine (placed _ _ (Ideal.ofBits .f32 0x3F666666#32) hrow r k).trans ?_
  rw [pairs_snd, counted_self _ _ _ (h r), WordCmp.toInt_eq_toNat_of_lt_half (h r)]
  refine if_congr ?_ rfl rfl
  have hk := k.isLt
  constructor
  · intro e
    apply BitVec.eq_of_toNat_eq
    rw [WordCmp.toNat_ofNat_of_lt (by omega)]
    exact_mod_cast e.symm
  · intro e
    rw [← e, WordCmp.toNat_ofNat_of_lt (by omega)]

/-- The sum, over rows and classes, of minus the smoothed label times the prediction. -/
def lossSum (x : FVec Ideal S1024x100000 .f32) (tgt : IVec S1024 32) : EReal :=
  ∑ r : Fin 1024, ∑ k : Fin 100000, -(labels tgt (ix2 r k)) * x (ix2 r k)

/-- The reference's row losses: what its first reduction leaves. -/
abbrev rowLoss (x : FVec Ideal S1024x100000 .f32) (tgt : IVec S1024 32) : FVec Ideal S1024 .f32 :=
  Host.reduceAdd (mulf (Host.negf (labels tgt)) x) (constant S_ .f32 0x00000000#32) reducesTo_S1024x100000_S1024_d1 h_S_

/-- The reference's total: what its second reduction leaves. -/
abbrev allLoss (x : FVec Ideal S1024x100000 .f32) (tgt : IVec S1024 32) : FVec Ideal S_ .f32 :=
  Host.reduceAdd (rowLoss x tgt) (constant S_ .f32 0x00000000#32) reducesTo_S1024_S_d0 h_S_

/-- What the reference computes from its two arguments. -/
abbrev loss (x : FVec Ideal S1024x100000 .f32) (tgt : IVec S1024 32) : FVec Ideal S_ .f32 :=
  Host.divf (allLoss x tgt) (constant S_ .f32 0x44800000#32)

/-- A class of a row, as the first reduction finds it. -/
theorem lifted (h : S1024x100000.Reduces [1] S1024) (r : Fin 1024) (k : Fin 100000) : h.lift (ix1 r) k = ix2 r k := by
  funext a; fin_cases a <;> rfl

/-- A row's loss is the sum over its classes. -/
theorem rowLoss_apply (x : FVec Ideal S1024x100000 .f32) (tgt : IVec S1024 32) (r : Fin 1024) :
    rowLoss x tgt (ix1 r) = ∑ k : Fin 100000, -(labels tgt (ix2 r k)) * x (ix2 r k) := by
  have hR : S1024x100000.Reduces [1] S1024 := by decide
  refine (hostReduceAdd_apply _ _ _ _ _).trans ((Ideal.hostReduceAdd_single _ hR _ _ _).trans ?_)
  rw [constant_apply]
  refine (congrArg (· + _) Ideal.ofBits_zero_f32).trans ((zero_add _).trans ?_)
  refine Finset.sum_congr rfl fun k _ => ?_
  exact congrArg (mulf (Host.negf (labels tgt)) x) (lifted hR r k)

/-- The total is the sum over the rows. -/
theorem allLoss_apply (x : FVec Ideal S1024x100000 .f32) (tgt : IVec S1024 32) (j : S_.Idx) :
    allLoss x tgt j = lossSum x tgt := by
  refine (hostReduceAdd_apply _ _ _ _ _).trans ((Ideal.hostReduceAdd_total _ (fun b => b.elim0) _ _ _).trans ?_)
  rw [constant_apply]
  refine (congrArg (· + _) Ideal.ofBits_zero_f32).trans ((zero_add _).trans ?_)
  rw [← Equiv.sum_comp (idxEquiv1 (n := 1024)).symm]
  exact Finset.sum_congr rfl fun r _ => rowLoss_apply x tgt r

/-- The reference computes that sum divided by the number of rows. -/
theorem loss_eq (x : FVec Ideal S1024x100000 .f32) (tgt : IVec S1024 32) :
    loss x tgt = fun _ => Ideal.div (lossSum x tgt) (Ideal.ofBits .f32 0x44800000#32) := by
  funext j
  exact (hostDivf_apply _ _ _).trans (congrArg (Ideal.div · (Ideal.ofBits .f32 0x44800000#32)) (allLoss_apply x tgt j))

/-- The reference's run: its result is that quotient, and its arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = (fun _ =>
        Ideal.div (lossSum (m ((c.tc : Thread nD τ).loc main_arg0)) (m ((c.tc : Thread nD τ).loc main_arg1)))
          (Ideal.ofBits .f32 0x44800000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (loss_eq _ _), (h c).2⟩) (Cert.ReferenceIdeal.Value.run (F := Ideal) m ρ)

end Cert.ReferenceIdeal.Nll

end
-- ==== Proof.Equation.lean ====
/- The equation between the two sums: the kernel's factor is minus the reference's label, and sums may be swapped. -/
module

public import proofs.«01_k».proof.Proof.Result
public import proofs.«01_k».proof.Proof.Loss

@[expose] public section

noncomputable section

namespace Cert.Nll

open Idealize.ShloMosaic hiding ix1 ix2
open Idealize.ShloMosaic.ValueIdx
open Cert.KernelIdeal.Nll (factor preds targets classSum grandSum answer)
open Cert.ReferenceIdeal.Nll (labels labels_apply lossSum)
open scoped BigOperators

/-- The kernel's constant for a hit is minus the reference's. -/
theorem hit_const : Ideal.ofBits .f32 0xBF666666#32 = -(Ideal.ofBits .f32 0x3F666666#32) := by
  simp [Ideal.ofBits, Ideal.ieee, -EReal.coe_mul, -EReal.coe_neg]
  rw [← EReal.coe_neg]

/-- The kernel's constant for a miss is minus the reference's. -/
theorem miss_const : Ideal.ofBits .f32 0xB5863815#32 = -(Ideal.ofBits .f32 0x35863815#32) := by
  simp [Ideal.ofBits, Ideal.ieee, -EReal.coe_mul, -EReal.coe_neg]
  rw [← EReal.coe_neg]

/-- The kernel's factor is minus the reference's smoothed label. -/
theorem factor_eq (tgt : IVec Cert.ReferenceIdeal.S1024 32) (h : ∀ u : Fin 1024, (tgt (ix1 u)).toNat < 2 ^ 31)
    (r : Fin 1024) (k : Fin 100000) : factor (BitVec.ofNat 32 k.val = tgt (ix1 r)) = -(labels tgt (ix2 r k)) := by
  rw [labels_apply tgt h, factor, hit_const, miss_const]
  split <;> rfl

variable (m : (ℓ : Loc Cert.KernelIdeal.nD Cert.KernelIdeal.τ Cert.KernelIdeal.sig) → Buf (Elt Ideal) ℓ) (c : Dev Cert.KernelIdeal.nD)

/-- Class by class or row by row, the sum is the same. -/
theorem sums_eq (h : ∀ u : Fin 1024, (targets m c (ix1 u)).toNat < 2 ^ 31) :
    grandSum m c = lossSum (preds m c) (targets m c) := by
  unfold grandSum classSum lossSum
  rw [Finset.sum_comm]
  refine Finset.sum_congr rfl fun r _ => Finset.sum_congr rfl fun k _ => ?_
  rw [factor_eq _ h, mul_comm]

/-- The kernel's answer is the reference's sum divided by the number of rows. -/
theorem answer_eq (h : ∀ u : Fin 1024, (targets m c (ix1 u)).toNat < 2 ^ 31) :
    answer m c = Ideal.div (lossSum (preds m c) (targets m c)) (Ideal.ofBits .f32 0x44800000#32) := by
  rw [answer, sums_eq m c h]

end Cert.Nll

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic hiding ix1 ix2
open Idealize.ShloMosaic.ValueIdx Idealize.SL.Sem

/-- The precondition's one side condition. -/
instance preFacts : Cert.Pre_target_not_negative.Facts where
  bcast_S_S1024 := by decide

/-- The precondition says that each target, as an unsigned word, is below 2^31. -/
theorem targets_small (m : (ℓ : Loc Cert.KernelIdeal.nD Cert.KernelIdeal.τ Cert.KernelIdeal.sig) → Buf (Elt Ideal) ℓ)
    (h : Cert.Pre_KernelIdeal_target_not_negative m) (c : Dev Cert.KernelIdeal.nD) (u : Fin 1024) :
    (Cert.KernelIdeal.Nll.targets m c (ix1 u)).toNat < 2 ^ 31 := by
  have e : IntOp.cmpi .sge (Cert.KernelIdeal.Nll.targets m c (ix1 u)) 0#32 = 1#1 := congrFun (h c) (ix1 u)
  rw [WordCmp.cmpi_sge_zero] at e
  exact (WordCmp.ofBool_decide_eq_one_iff _).1 e

/-- The reference leaves its arguments unchanged, and it has no counter to leave. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with the same value where no target is negative. -/
theorem values : Cert.algebraic_KernelIdeal_ReferenceIdeal_pre_target_not_negative := by
  intro m ρ m' ρ' hpre hagree
  refine ⟨fun c => fun _ => Cert.KernelIdeal.Nll.answer m c, Cert.KernelIdeal.Nll.run m ρ, ?_⟩
  refine (θ_run Cert.ReferenceIdeal.defs _ _).mono (fun _ h c => ⟨(h c).1.trans ?_, (h c).2⟩)
    (Cert.ReferenceIdeal.Nll.run m' ρ')
  funext _
  exact (congrArg (Ideal.div · (Ideal.ofBits .f32 0x44800000#32))
    (congrArg₂ Cert.ReferenceIdeal.Nll.lossSum (hagree c).1 (hagree c).2)).trans
    (Cert.Nll.answer_eq m c (targets_small m hpre c)).symm

/-- The certificate's claim: the facts of the programs and the precondition, the frames, `preserves`, and the values. -/
theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    values⟩

end Cert.Proof

end
